-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_truth_binary [hPre_truth_binary : Cert.Pre_truth_binary.Facts] (m : (ℓ : Loc Cert.KernelIdeal.nD Cert.KernelIdeal.τ Cert.KernelIdeal.sig) → Buf (Elt Ideal) ℓ) : Prop :=
  ∀ c : Dev Cert.KernelIdeal.nD,
    (Cert.Pre_truth_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_truth_binary [hPre_truth_binary : Cert.Pre_truth_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_truth_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_truth_binary [hKernelIdeal : Cert.KernelIdeal.Facts] [hPre_truth_binary : Cert.Pre_truth_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_truth_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_truth_binary [hReferenceIdeal : Cert.ReferenceIdeal.Facts] [hPre_truth_binary : Cert.Pre_truth_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_truth_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_truth_binary [hKernelIdeal : Cert.KernelIdeal.Facts] [hReferenceIdeal : Cert.ReferenceIdeal.Facts] [hPre_truth_binary : Cert.Pre_truth_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_truth_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_truth_binary : Cert.Pre_truth_binary.Facts),
    quiescent_Kernel (hKernel := hKernel)
    ∧ quiescent_KernelIdeal (hKernelIdeal := hKernelIdeal)
    ∧ quiescent_KernelIdeal_pre_truth_binary (hKernelIdeal := hKernelIdeal) (hPre_truth_binary := hPre_truth_binary)
    ∧ quiescent_ReferenceIdeal (hReferenceIdeal := hReferenceIdeal)
    ∧ quiescent_ReferenceIdeal_pre_truth_binary (hReferenceIdeal := hReferenceIdeal) (hPre_truth_binary := hPre_truth_binary)
    ∧ preserves_Kernel_KernelIdeal
    ∧ algebraic_KernelIdeal_ReferenceIdeal_pre_truth_binary (hKernelIdeal := hKernelIdeal) (hReferenceIdeal := hReferenceIdeal) (hPre_truth_binary := hPre_truth_binary)
-- ==== Pre_truth_binary.lean ====
abbrev S16384x1024 : Shape := ⟨2, ![16384, 1024]⟩
abbrev S1 : Shape := ⟨1, ![1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : IVec S16384x1024 32) (main_arg2 : FVec F S1 .f32) (main_arg3 : IVec S16384x1024 32) : IVec S_ 1 :=
  let main_c : IVec S_ 32 := constantI S_ 32 0#32
  let main_v0 : IVec S16384x1024 32 := broadcastInDim S16384x1024 ![] bcast_S_S16384x1024 main_c
  let main_v1 : IVec S16384x1024 1 := cmpi .sle main_arg3 main_v0
  let main_c_0 : IVec S_ 32 := constantI S_ 32 0#32
  let main_v2 : IVec S16384x1024 32 := broadcastInDim S16384x1024 ![] bcast_S_S16384x1024 main_c_0
  let main_v3 : IVec S16384x1024 1 := cmpi .eq main_arg1 main_v2
  let main_v4 : IVec S16384x1024 1 := ori main_v1 main_v3
  let main_c_1 : IVec S_ 32 := constantI S_ 32 1#32
  let main_v5 : IVec S16384x1024 32 := broadcastInDim S16384x1024 ![] bcast_S_S16384x1024 main_c_1
  let main_v6 : IVec S16384x1024 1 := cmpi .eq main_arg1 main_v5
  let main_v7 : IVec S16384x1024 1 := ori main_v4 main_v6
  let main_c_2 : IVec S_ 1 := constantI S_ 1 1#1
  let main_v8 : IVec S_ 1 := (fun x v => Host.reduce IntOp.andi x v reducesTo_S16384x1024_S_d0_1 h_S_) main_v7 main_c_2
  main_v8
-- ==== Kernel.lean ====
abbrev S16384x1024 : Shape := ⟨2, ![16384, 1024]⟩
abbrev S1 : Shape := ⟨1, ![1]⟩
abbrev S1024x1024 : Shape := ⟨2, ![1024, 1024]⟩
abbrev S2 : Shape := ⟨1, ![2]⟩
abbrev S1x1024x1024 : Shape := ⟨3, ![1, 1024, 1024]⟩
abbrev S1x1x1 : Shape := ⟨3, ![1, 1, 1]⟩
abbrev S_ : Shape := ⟨0, ![]⟩

abbrev nBuf : Space → Nat
  | .hbm => 6
  | .vmem => 6
  | .smem => 3
  | _ => 0

abbrev bufTy : (tb : Table) → Fin (tcTables nBuf tb) → BufTy
  | .hbm, ⟨0, _⟩ => ⟨S16384x1024, .f32⟩
  | .hbm, ⟨1, _⟩ => ⟨S16384x1024, .i32⟩
  | .hbm, ⟨2, _⟩ => ⟨S1, .f32⟩
  | .hbm, ⟨3, _⟩ => ⟨S16384x1024, .i32⟩
  | .hbm, ⟨4, _⟩ => ⟨S1, .f32⟩
  | .hbm, ⟨5, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1024, .i32⟩
  | .local _ .vmem, ⟨5, _⟩ => ⟨S1024x1024, .i32⟩
  | .local _ .smem, ⟨0, _⟩ => ⟨S1, .f32⟩
  | .local _ .smem, ⟨1, _⟩ => ⟨S1, .f32⟩
  | .local _ .smem, ⟨2, _⟩ => ⟨S2, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_stg4_0 : Ref sig .tc := ⟨.smem, 1, rfl⟩
abbrev cc0_scratch0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_16 : BitVec 32 := 0#32
  let v37 : BitVec 1 := Scalar.cmpi .ne v36 c0_i32_16
  v37

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16384x1024 : Shape := ⟨2, ![16384, 1024]⟩
abbrev S1 : Shape := ⟨1, ![1]⟩
abbrev S_ : Shape := ⟨0, ![]⟩
abbrev S16777216 : Shape := ⟨1, ![16777216]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .i32⟩
  | .hbm, ⟨2, _⟩ => ⟨S1, .f32⟩
  | .hbm, ⟨3, _⟩ => ⟨S16384x1024, .i32⟩
  | .hbm, ⟨4, _⟩ => ⟨S_, .i32⟩
  | .hbm, ⟨5, _⟩ => ⟨S16384x1024, .i32⟩
  | .hbm, ⟨6, _⟩ => ⟨S16384x1024, .i1⟩
  | .hbm, ⟨7, _⟩ => ⟨S16777216, .i1⟩
  | .hbm, ⟨8, _⟩ => ⟨S16777216, .f32⟩
  | .hbm, ⟨9, _⟩ => ⟨S16777216, .f32⟩
  | .hbm, ⟨10, _⟩ => ⟨S16777216, .i32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S_, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.Loss.lean ====
/-
  The mathematics of one element, over the extended reals: the clipped log-likelihood the kernel adds up, the
  reference's cross-entropy of the same element, and the equation between the two; and the sum of such terms negated.
-/
module

public import Idealize.ShloMosaic.PureOps.Ideal.Laws
public import Idealize.ShloMosaic.Lib.IdealHost

@[expose] public section

noncomputable section

namespace Cert.Loss

open Idealize.ShloMosaic

/-- The bound the logarithms are clipped at from below, as the extended real its word stands for. -/
abbrev bound : EReal := Ideal.ofBits .f32 0xC2C80000#32

/-- Whether an integer is positive, as one bit. -/
abbrev positive (k : BitVec 32) : BitVec 1 := IntOp.cmpi .sgt k 0#32

/-- The clipped log-likelihood of one element: of the prediction where the label is positive, of its complement where it
    is not; zero where the mask does not select the element. -/
def logLik (p : EReal) (t k : BitVec 32) : EReal :=
  if positive k = 1#1 then max (Ideal.log (if positive t = 1#1 then p else 1 - p)) bound else 0

/-- One where the mask selects the element, zero where it does not. -/
def count (k : BitVec 32) : EReal := ((positive k).toNat : ℝ)

/-- The reference's cross-entropy of one element, times the mask: the label is a weight. -/
def crossEntropy (p : EReal) (t k : BitVec 32) : EReal :=
  -((t.toInt : ℝ) * max bound (Ideal.log p) + (1 - (t.toInt : ℝ)) * max bound (Ideal.log (1 - p))) * count k

/-- The bound is not minus infinity. -/
theorem bound_ne_bot : bound ≠ ⊥ := by
  simp [Ideal.ofBits, Ideal.ieee]
  rw [← EReal.coe_mul]
  exact EReal.coe_ne_top _

/-- So a clipped log-likelihood never is. -/
theorem logLik_ne_bot (p : EReal) (t k : BitVec 32) : logLik p t k ≠ ⊥ := by
  unfold logLik
  split
  · exact ne_bot_of_le_ne_bot bound_ne_bot (le_max_right _ _)
  · exact EReal.zero_ne_bot

/-- A bit widened to a word and read signed is the bit read unsigned. -/
theorem widened_toInt (b : BitVec 1) : (b.setWidth 32).toInt = b.toNat := by
  revert b; decide

/-- Where the label of a selected element is 0 or 1, the cross-entropy is the log-likelihood negated. -/
theorem crossEntropy_eq (p : EReal) (t k : BitVec 32) (h : positive k = 1#1 → t = 0#32 ∨ t = 1#32) :
    crossEntropy p t k = -logLik p t k := by
  unfold crossEntropy logLik count
  by_cases hk : positive k = 1#1
  · rw [if_pos hk, hk]
    rcases h hk with rfl | rfl
    · rw [if_neg (by decide)]
      simp [max_comm]
    · rw [if_pos (by decide)]
      have h1 : (1 - ((1#32).toInt : ℝ) : EReal) = 0 := by
        rw [show (1#32).toInt = 1 from by decide]
        simp only [Int.cast_one, EReal.coe_one]
        exact EReal.sub_self (by decide) (by decide)
      rw [h1]
      simp [max_comm]
  · have h0 : positive k = 0#1 := by
      rcases (by decide : ∀ b : BitVec 1, b = 0#1 ∨ b = 1#1) (positive k) with e | e
      · exact e
      · exact absurd e hk
    rw [if_neg hk, h0]
    simp

/-- A sum of terms none of which is minus infinity is not minus infinity. -/
theorem sum_ne_bot {ι : Type*} (s : Finset ι) (f : ι → EReal) (h : ∀ i, f i ≠ ⊥) : ∑ i ∈ s, f i ≠ ⊥ := by
  classical
  induction s using Finset.induction_on with
  | empty => simp
  | insert a s ha ih =>
    rw [Finset.sum_insert ha]
    exact fun e => (EReal.add_eq_bot_iff.mp e).elim (h a) ih

/-- Negation goes through such a sum. -/
theorem neg_sum {ι : Type*} (s : Finset ι) (f : ι → EReal) (h : ∀ i, f i ≠ ⊥) : -∑ i ∈ s, f i = ∑ i ∈ s, -f i := by
  classical
  induction s using Finset.induction_on with
  | empty => simp
  | insert a s ha ih =>
    rw [Finset.sum_insert ha, Finset.sum_insert ha, ← ih,
      EReal.neg_add (Or.inl (h a)) (Or.inr (sum_ne_bot s f h)), sub_eq_add_neg]

end Cert.Loss

end
-- ==== Proof.Body.lean ====
/-
  What one grid point leaves behind, read off the stores of its run.

  The kernel keeps two running words in its scratch: word 0 is the running loss, word 1 the running count. Every point
  adds its block's loss to word 0 (`k0_pay3`) and its block's count to word 1 (`k0_pay4`); the first point starts from
  zero, the last one also writes the result (`k0_pay1`).
-/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen
open Idealize.ShloMosaic Idealize.ShloMosaic.TcCoe Idealize.SL.Sem

variable {F : FTy → Type} [FloatOps F]

/-- The scratch index of word `k`. -/
def word (k : Fin 2) : S2.Idx := fun | ⟨0, _⟩ => k

/-- The one index of a one-word array. -/
def only : S1.Idx := fun | ⟨0, _⟩ => (0 : Fin 1)

/-- The scratch whose word 0 is `a` and whose word 1 is `b`. -/
def pair (a b : F .f32) : Vec F S2 .f32 := fun y => if (y 0).val = 0 then a else b

theorem pair_zero (a b : F .f32) : pair a b (word 0) = a := if_pos rfl
theorem pair_one (a b : F .f32) : pair a b (word 1) = b := if_neg (by decide)

/-- Whatever was stored before, a store of `a` to word 0 followed by a store of `b` to word 1 leaves `pair a b`. -/
theorem canon_pair (a b : F .f32) (L : List (View.Piece (Elt F) S2 .f32)) :
    View.canon ((⟨Rect.unit ![1] ![1] inb_S2_S1_1, fun _ => b⟩ : View.Piece (Elt F) S2 .f32)
      :: ⟨Rect.unit ![0] ![1] inb_S2_S1_0, fun _ => a⟩ :: L) = pair a b := by
  funext y
  unfold pair
  have hlt : (y 0).val < 2 := (y 0).isLt
  by_cases h : (y 0).val = 0
  · rw [if_pos h, View.canon_cons_of_not_mem]
    · have hm : y ∈ (Rect.unit (s := S2) ![0] ![1] inb_S2_S1_0).set := by
        rw [Rect.mem_set_unit]
        intro d
        match d with
        | ⟨0, _⟩ => exact ⟨Nat.zero_le _, by show (y 0).val < 0 + 1; omega⟩
      obtain ⟨x, rfl⟩ := (Rect.unit (s := S2) ![0] ![1] inb_S2_S1_0).exists_idx_of_mem hm
      exact View.canon_cons_emb _ _ _ x
    · intro hm
      have := ((Rect.mem_set_unit (s := S2) (off := ![1]) (size := ![1]) (inb := inb_S2_S1_1)).mp hm ⟨0, by decide⟩).1
      have : 1 ≤ (y 0).val := this
      omega
  · rw [if_neg h]
    have hm : y ∈ (Rect.unit (s := S2) ![1] ![1] inb_S2_S1_1).set := by
      rw [Rect.mem_set_unit]
      intro d
      match d with
      | ⟨0, _⟩ => exact ⟨by show 1 ≤ (y 0).val; omega, by show (y 0).val < 1 + 1; omega⟩
    obtain ⟨x, rfl⟩ := (Rect.unit (s := S2) ![1] ![1] inb_S2_S1_1).exists_idx_of_mem hm
    exact View.canon_cons_emb _ _ _ x

/-- A store of `a` to the one word of the result leaves `a` there. -/
theorem canon_one (a : F .f32) (L : List (View.Piece (Elt F) S1 .f32)) :
    View.canon ((⟨Rect.unit ![0] ![1] inb_S1_S1_0, fun _ => a⟩ : View.Piece (Elt F) S1 .f32) :: L) = fun _ => a :=
  View.canon_cons_unit_zero (S := S1) (funext fun d => by fin_cases d; rfl) _ _ _

theorem hz2 : (![0, 0] : Fin 2 → Nat) = fun _ => 0 := funext fun a => by fin_cases a <;> rfl

/-- Loading a whole block reads the block. -/
theorem load_block {e : EltTy} (a : Memref sig .tc .vmem S1024x1024 e) (h : a.IsWhole) (x : Vec F S1024x1024 e)
    (inb : ∀ d, (![0, 0] : Fin 2 → Nat) d + (![1024, 1024] : Fin 2 → Nat) d ≤ S1024x1024.size d) :
    View.readAt (Elt F) a.view (Rect.unit ![0, 0] ![1024, 1024] inb).toLoadRect (h.unread x) = x := by
  rw [View.readAt_eq_ld, h.read_unread]
  exact View.ld_unit_zero (S := S1024x1024) hz2 _ x

/-- Loading word 0 of the scratch reads word 0; -/
theorem load_word0 (a : Memref sig .tc .smem S2 .f32) (h : a.IsWhole) (x : Vec F S2 .f32) (hp) :
    View.readAt (Elt F) a.view (Rect.unit (s := S2) ![0] S1.size inb_S2_S1_0).toLoadRect (h.unread x) (Shape.Idx.first hp)
      = x (word 0) := by
  rw [View.readAt_eq_ld, h.read_unread]
  exact congrArg x (funext fun d => by fin_cases d; rfl)

/-- loading word 1 reads word 1; -/
theorem load_word1 (a : Memref sig .tc .smem S2 .f32) (h : a.IsWhole) (x : Vec F S2 .f32) (hp) :
    View.readAt (Elt F) a.view (Rect.unit (s := S2) ![1] S1.size inb_S2_S1_1).toLoadRect (h.unread x) (Shape.Idx.first hp)
      = x (word 1) := by
  rw [View.readAt_eq_ld, h.read_unread]
  exact congrArg x (funext fun d => by fin_cases d; rfl)

/-- and loading the one word of the penalty reads it. -/
theorem load_single (a : Memref sig .tc .smem S1 .f32) (h : a.IsWhole) (x : Vec F S1 .f32) (hp) :
    View.readAt (Elt F) a.view (Rect.unit ![0] ![1] inb_S1_S1_0).toLoadRect (h.unread x) (Shape.Idx.first hp)
      = x only := by
  rw [View.readAt_eq_ld, h.read_unread]
  exact congrArg x (funext fun d => by fin_cases d; rfl)

section Cases

variable (c : Dev nD) (i : grid0.Coords) (arg1 : Memref sig .tc .smem S1 .f32) (harg1 : arg1.IsWhole)
    (arg2 : Memref sig .tc .vmem S1024x1024 .f32) (harg2 : arg2.IsWhole) (arg3 : Memref sig .tc .vmem S1024x1024 .i32) (harg3 : arg3.IsWhole)
    (arg4 : Memref sig .tc .vmem S1024x1024 .i32) (harg4 : arg4.IsWhole) (arg5 : Memref sig .tc .smem S1 .f32) (harg5 : arg5.IsWhole)
    (arg6 : Memref sig .tc .smem S2 .f32) (harg6 : arg6.IsWhole)
    (x0 : Vec F S1 .f32) (x1 : Vec F S1024x1024 .f32) (x2 : Vec F S1024x1024 .i32) (x3 : Vec F S1024x1024 .i32)

/-- The first point: both words start at zero and take the block's loss and count. -/
theorem scratch_first (hc0 : cond0_0 i) (hc1 : ¬cond0_1 i) :
    sout0_A_0 c i arg1 harg1 arg2 harg2 arg3 harg3 arg4 harg4 arg5 harg5 arg6 harg6 hc0 hc1 x0 x1 x2 x3
      = pair (k0_pay3 x1 x2 x3 (Scalar.ofBits .f32 0x00000000#32)) (k0_pay4 x3 (Scalar.ofBits .f32 0x00000000#32)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  refine (canon_pair _ _ _).trans ?_
  rw [load_block, load_block, load_block]

/-- A point between: both words go up by the block's loss and count. -/
theorem scratch_mid (hc0 : ¬cond0_0 i) (hc1 : ¬cond0_1 i) (xs : Vec F S2 .f32) :
    sout0_B_0 c i arg1 harg1 arg2 harg2 arg3 harg3 arg4 harg4 arg5 harg5 arg6 harg6 hc0 hc1 x0 x1 x2 x3 xs
      = pair (k0_pay3 x1 x2 x3 (xs (word 0))) (k0_pay4 x3 (xs (word 1))) := by
  unfold sout0_B_0
  rw [View.read_writes_eq_canon _ _ _ (scover0_B_0 c i arg1 harg1 arg2 harg2 arg3 harg3 arg4 harg4 arg5 harg5 arg6 harg6 hc0 hc1 x0 x1 x2 x3 xs)]
  unfold kernelRun0_B
  dsimp only
  sl_unfold_words
  refine (canon_pair _ _ _).trans ?_
  rw [load_block, load_block, load_block, load_word0, load_word1]

/-- The last point: the result is the mean of the updated words plus the weighted penalty. -/
theorem out_last (hc0 : ¬cond0_0 i) (hc1 : cond0_1 i) (xs : Vec F S2 .f32) :
    out0_C_4 c i arg1 harg1 arg2 harg2 arg3 harg3 arg4 harg4 arg5 harg5 arg6 harg6 hc0 hc1 x0 x1 x2 x3 xs
      = fun _ => k0_pay1 (k0_pay3 x1 x2 x3 (xs (word 0))) (k0_pay4 x3 (xs (word 1))) (x0 only) := by
  unfold out0_C_4
  rw [View.read_writes_eq_canon _ _ _ (cover0_C_4 c i arg1 harg1 arg2 harg2 arg3 harg3 arg4 harg4 arg5 harg5 arg6 harg6 hc0 hc1 x0 x1 x2 x3 xs)]
  unfold kernelRun0_C
  dsimp only
  sl_unfold_words
  refine (canon_one _ _).trans ?_
  rw [load_single, load_word0, load_word1, load_block, load_block, load_block]

end Cases

end Cert.KernelIdeal.Value

end
-- ==== Proof.Run.lean ====
/-
  What the launch leaves in the result: the words after the last point, turned into the result by the last point's
  store, and unchanged by the line after the launch, which only drops the axis of extent 1.
-/
module

public import proofs.«01_k».proof.Proof.Body
public import Idealize.ShloMosaic.Lib.StableHlo.Run

@[expose] public section

noncomputable section

namespace Cert.KernelIdeal.Value

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Point `t`'s block of the predictions, -/
abbrev predBlk (c : Dev nD) (t : Fin cfg0.N) : Vec F S1024x1024 .f32 := iblk m c 1 t
/-- of the labels -/
abbrev truthBlk (c : Dev nD) (t : Fin cfg0.N) : Vec F S1024x1024 .i32 := iblk m c 2 t
/-- and of the mask. -/
abbrev maskBlk (c : Dev nD) (t : Fin cfg0.N) : Vec F S1024x1024 .i32 := iblk m c 3 t

/-- The two running words after point `n`, by recursion on the point. -/
def words (c : Dev nD) : (n : ℕ) → n < cfg0.N → Vec F S2 .f32
  | 0, h => pair (k0_pay3 (predBlk m c ⟨0, h⟩) (truthBlk m c ⟨0, h⟩) (maskBlk m c ⟨0, h⟩) (Scalar.ofBits .f32 0x00000000#32))
      (k0_pay4 (maskBlk m c ⟨0, h⟩) (Scalar.ofBits .f32 0x00000000#32))
  | n + 1, h => pair (k0_pay3 (predBlk m c ⟨n + 1, h⟩) (truthBlk m c ⟨n + 1, h⟩) (maskBlk m c ⟨n + 1, h⟩)
        (words c n (Nat.lt_of_succ_lt h) (word 0)))
      (k0_pay4 (maskBlk m c ⟨n + 1, h⟩) (words c n (Nat.lt_of_succ_lt h) (word 1)))

/-- Before the last point the scratch holds the two running words. -/
theorem scratch_eq (c : Dev nD) : ∀ (n : ℕ) (h : n < cfg0.N), n < 15 → (outsAt0 m c n h).2 = words m c n h
  | 0, h, _ => by
    rw [outsAt0_A m c ⟨0, h⟩ rfl (by dsimp only; omega)]
    dsimp only
    exact scratch_first ..
  | n + 1, h, hn => by
    rw [outsAt0_B m c ⟨n + 1, h⟩ (by dsimp only; omega) (by dsimp only; omega)]
    dsimp only
    refine (scratch_mid ..).trans ?_
    show pair (k0_pay3 _ _ _ ((outsAt0 m c n _).2 (word 0))) (k0_pay4 _ ((outsAt0 m c n _).2 (word 1))) = _
    rw [scratch_eq c n (Nat.lt_of_succ_lt h) (by omega)]
    rfl

/-- The result as one number: the loss word over the count word, plus the weighted penalty. -/
def total (c : Dev nD) : F .f32 :=
  k0_pay1 (words m c 15 t0_15.isLt (word 0)) (words m c 15 t0_15.isLt (word 1)) (m ((c : Thread nD τ).loc main_arg2) only)

/-- The window on the penalty reads the penalty. -/
theorem penalty_eq (c : Dev nD) (t : Fin cfg0.N) : (iblk m c 0 t : Vec F S1 .f32) only = m ((c : Thread nD τ).loc main_arg2) only := by
  unfold iblk
  rw [View.read_apply]
  refine (congrArg (m ((c : Thread nD τ).loc main_arg2)) (funext fun d => ?_) : _ = _)
  exact Fin.ext (by
    have h : ∀ x y : Fin 1, x.val = y.val := fun x y => by omega
    match d with
    | ⟨0, _⟩ => exact h _ _)

/-- The last point leaves in the result's buffer the loss word over the count word, plus the weighted penalty. -/
theorem last_at (c : Dev nD) (n : ℕ) (h : n + 1 < cfg0.N) (hn : n + 1 = 15) : (outsAt0 m c (n + 1) h).1
    = fun _ => k0_pay1 (words m c (n + 1) h (word 0)) (words m c (n + 1) h (word 1)) (m ((c : Thread nD τ).loc main_arg2) only) := by
  rw [outsAt0_C m c ⟨n + 1, h⟩ (by dsimp only; omega) (by dsimp only; omega)]
  dsimp only
  refine (out_last ..).trans ?_
  show (fun _ => k0_pay1 (k0_pay3 _ _ _ ((outsAt0 m c n _).2 (word 0))) (k0_pay4 _ ((outsAt0 m c n _).2 (word 1))) _) = _
  rw [scratch_eq m c n (Nat.lt_of_succ_lt h) (by omega), penalty_eq]
  rfl

theorem last_eq (c : Dev nD) : (outsAt0 m c t0_15.val t0_15.isLt).1 = fun _ => total m c := last_at m c 14 t0_15.isLt rfl

/-- The result array, one word, ends holding the result. -/
abbrev result (c : Dev nD) : Buf (Elt F) ((c : Thread nD τ).loc main_v0) := fun _ => total m c

/-- The one block written back, at the last point, is the result array's contents. -/
theorem flushed_eq (c : Dev nD) (t : Fin cfg0.N) (hf : (cfg0.win 4).flush t = true) :
    (dats m 0 c).flushed 4 t = ((cfg0.win 4).blk t).view.read (Elt F) (result m c) := by
  have hN : cfg0.N = 16 := N_0
  obtain rfl : t = t0_15 := Fin.ext (by
    have := (flush0_4 t).mp hf; have := t.isLt; show t.val = 15; omega)
  show (cfg0.win 4).cut (grid0.coords t0_15) ((dats m 0 c).after 4 t0_15) = _
  rw [after0_4, last_eq]
  rfl

/-- So the result array ends holding it. -/
theorem final (c : Dev nD) : (dats m 0 c).arrAt 4 cfg0.N = result m c :=
  (dats m 0 c).arrAt_eq_of_cover 4 (result m c) (flushed_eq m c) fun i =>
    ⟨t0_15, (flush0_4 t0_15).mpr rfl, by
      show i ∈ ((View.whole main_v0).slice (win0_4.rect t0_15)).set
      rw [View.set_slice_whole, Rect.mem_set_unit]
      intro a
      have h0 : (i 0 : Nat) < 1 := (i 0).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega⟩

/-- The line after the launch drops the axis of extent 1: the value is the same number. -/
theorem tail_eq (c : Dev nD) :
    Pipeline.afterTail₀ cfgs (dats m) 0 (V0 m) [hostOps1] c main_v1 = fun _ => total m c := by
  have h : Pipeline.afterTail₀ cfgs (dats m) 0 (V0 m) [hostOps1] c main_v1
      = shapeCast S_ (Pipeline.withArrays (cfgs 0).spec c (V0 m c) (fun w => (dats m 0 c).arrAt w (cfgs 0).N)
          (Proc.devRef .tc main_v0)) shapeCasts_S1_S_ := by
    unfold Pipeline.afterTail₀
    rw [show ([hostOps1].flatten : List (HloOp τ sig (Elt F))) = hostOps1 from rfl]
    after_results
    rfl
  rw [h]
  rw [show Pipeline.withArrays (cfgs 0).spec c (V0 m c) (fun w => (dats m 0 c).arrAt w (cfgs 0).N) (Proc.devRef .tc main_v0)
      = (dats m 0 c).arrAt 4 cfg0.N from
    Pipeline.withArrays_arr spec0 (by decide) c (V0 m c) (fun w => (dats m 0 c).arrAt w cfg0.N) 4, final]
  rfl

/-- The run, read: the result at `total`, the arguments unchanged. -/
theorem run : θ_run defs (onTc (τ := τ) (main (F := F))) ⟨m, fun _ => 0, ρ⟩ (fun r => ∀ c : Dev nD,
      r.2.mem ((c.tc : Thread nD τ).loc main_v1) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c |>.2 main_v1 (by decide)).trans (tail_eq m c), h.2 c⟩)
    (θ_run_and (run_main m ρ) (unchanged m ρ))

end Cert.KernelIdeal.Value

end
-- ==== Proof.Blocks.lean ====
/-
  The array cut into sixteen blocks of 1024 rows, and what one block adds to the two running words over the extended
  reals: the sum of its clipped log-likelihoods, negated, and the number of its selected elements.
-/
module

public import proofs.«01_k».proof.Proof.Loss
public import proofs.«01_k».proof.Proof.Run
public import Idealize.ShloMosaic.Lib.ValueIdxCore
public import Idealize.ShloMosaic.Lib.ValueIdxCoords

@[expose] public section

noncomputable section

namespace Cert.KernelIdeal.Value

open Cert.KernelIdeal Cert.KernelIdeal.Gen Cert.Loss
open Idealize.ShloMosaic Idealize.ShloMosaic.TcCoe Idealize.ShloMosaic.ValueIdx

/-- Element `j` of block `t` in the whole array: the block's rows start at row `1024 t`. -/
def place (t : Fin 16) (j : S1024x1024.Idx) : S16384x1024.Idx :=
  ix2 (n0 := 16384) (n1 := 1024) ⟨1024 * t.val + (j 0).val, by have := t.isLt; have := idx2_lt0 j; omega⟩ (j 1)

/-- Every element of the array lies in exactly one block, at one place. -/
def blocks : Fin 16 × S1024x1024.Idx ≃ S16384x1024.Idx where
  toFun q := place q.1 q.2
  invFun i := (⟨(i 0).val / 1024, by have := idx2_lt0 i; omega⟩,
    ix2 (n0 := 1024) (n1 := 1024) ⟨(i 0).val % 1024, by omega⟩ (i 1))
  left_inv := by
    rintro ⟨t, j⟩
    have hj := idx2_lt0 j
    refine Prod.ext (Fin.ext ?_) (funext fun a => ?_)
    · show (1024 * t.val + (j 0).val) / 1024 = t.val
      omega
    · match a with
      | ⟨0, _⟩ => exact Fin.ext (by show (1024 * t.val + (j 0).val) % 1024 = (j 0).val; omega)
      | ⟨1, _⟩ => rfl
  right_inv := by
    intro i
    refine funext fun a => ?_
    match a with
    | ⟨0, _⟩ => exact Fin.ext (by show 1024 * ((i 0).val / 1024) + (i 0).val % 1024 = (i 0).val; omega)
    | ⟨1, _⟩ => rfl

/-- A sum over the array is the sum over the blocks of the sums over their elements. -/
theorem sum_blocks (f : S16384x1024.Idx → EReal) : ∑ i, f i = ∑ t : Fin 16, ∑ j : S1024x1024.Idx, f (place t j) := by
  rw [← Equiv.sum_comp blocks f, Fintype.sum_prod_type]
  rfl

/-- The one number of a block's sum: reshape, reduce, reshape, extract is the plain sum over the block. -/
theorem block_sum (x : FVec Ideal S1024x1024 .f32) :
    extractAt ![0, 0, 0] (shapeCast S1x1x1 (multiReduction .add [1, 2] S1
      (shapeCast S1x1024x1024 x shapeCasts_S1024x1024_S1x1024x1024) 0x00000000#32 reduces_S1x1024x1024_S1 (.inl rfl) rfl)
      shapeCasts_S1_S1x1x1) inpos_S1x1x1_p0_0_0 = ∑ j : S1024x1024.Idx, x j := by
  have h : ∀ j : S1.Idx, multiReduction .add [1, 2] S1 (shapeCast S1x1024x1024 x shapeCasts_S1024x1024_S1x1024x1024)
      0x00000000#32 reduces_S1x1024x1024_S1 (.inl rfl) rfl j = ∑ j : S1024x1024.Idx, x j := fun j =>
    (Ideal.multiReduction_add_total _ _ reduces_S1x1024x1024_S1 (by decide) (.inl rfl) rfl j).trans
      (Equiv.sum_comp (Shape.reshapeEquiv shapeCasts_S1024x1024_S1x1024x1024) x)
  exact h _

/-- The loss word goes up by the block's clipped log-likelihoods, negated. -/
theorem pay3_eq (p : Vec Ideal S1024x1024 .f32) (t k : Vec Ideal S1024x1024 .i32) (a : EReal) :
    k0_pay3 (F := Ideal) p t k a = a + -∑ j : S1024x1024.Idx, logLik (p j) (t j) (k j) := by
  unfold k0_pay3
  dsimp only
  rw [block_sum]
  show a + (Ideal.ofBits .f32 0x00000000#32 - ∑ j : S1024x1024.Idx, _) = _
  rw [Ideal.ofBits_zero_f32, zero_sub]
  refine congrArg (fun s => a + -s) (Finset.sum_congr rfl fun j _ => ?_)
  show (if positive (k j) = 1 then max (Ideal.log (if positive (t j) = 1 then p j else Ideal.ofBits .f32 0x3F800000#32 - p j)) bound
    else Ideal.ofBits .f32 0x00000000#32) = _
  rw [Ideal.ofBits_zero_f32, Ideal.ofBits_one_f32]
  rfl

/-- The count word goes up by the number of the block's selected elements. -/
theorem pay4_eq (k : Vec Ideal S1024x1024 .i32) (a : EReal) :
    k0_pay4 (F := Ideal) k a = a + ∑ j : S1024x1024.Idx, count (k j) := by
  unfold k0_pay4
  dsimp only
  rw [block_sum]
  show a + ∑ j : S1024x1024.Idx, _ = _
  refine congrArg (fun s => a + s) (Finset.sum_congr rfl fun j _ => ?_)
  show (((((positive (k j)).setWidth 32).toInt : ℤ) : ℝ) : EReal) = (((positive (k j)).toNat : ℝ) : EReal)
  rw [widened_toInt]
  norm_cast

end Cert.KernelIdeal.Value

end
-- ==== Proof.Total.lean ====
/-
  The kernel's result over the extended reals: the sum of all negated clipped log-likelihoods over the number of
  selected elements, plus the weighted penalty.
-/
module

public import proofs.«01_k».proof.Proof.Blocks

@[expose] public section

noncomputable section

namespace Cert.Loss

open Cert.KernelIdeal Idealize.ShloMosaic

/-- The mean of the negated clipped log-likelihoods over the selected elements, plus the weighted penalty. -/
def meanLoss (p : S16384x1024.Idx → EReal) (t k : S16384x1024.Idx → BitVec 32) (penalty : EReal) : EReal :=
  Ideal.div (∑ i, -logLik (p i) (t i) (k i)) (∑ i, count (k i)) + Ideal.ofBits .f32 0x3A83126F#32 * penalty

end Cert.Loss

namespace Cert.KernelIdeal.Value

open Cert.KernelIdeal Cert.KernelIdeal.Gen Cert.Loss
open Idealize.ShloMosaic Idealize.ShloMosaic.TcCoe Idealize.ShloMosaic.ValueIdx

variable (m : (ℓ : Loc nD τ sig) → Buf (Elt Ideal) ℓ)

/-- The block a grid point works on. -/
abbrev blockOf (t : Fin cfg0.N) : Fin 16 := ⟨t.val, lt_of_lt_of_eq t.isLt N_0⟩

/-- Each window over the large arrays moves down by one block of rows per point. -/
theorem index1 (t : Fin cfg0.N) : win0_1.index t 0 = t.val ∧ win0_1.index t 1 = 0 := by
  rcases fin_N0 t with h | h | h | h | h | h | h | h | h | h | h | h | h | h | h | h <;> subst h <;> decide +kernel
theorem index2 (t : Fin cfg0.N) : win0_2.index t 0 = t.val ∧ win0_2.index t 1 = 0 := by
  rcases fin_N0 t with h | h | h | h | h | h | h | h | h | h | h | h | h | h | h | h <;> subst h <;> decide +kernel
theorem index3 (t : Fin cfg0.N) : win0_3.index t 0 = t.val ∧ win0_3.index t 1 = 0 := by
  rcases fin_N0 t with h | h | h | h | h | h | h | h | h | h | h | h | h | h | h | h <;> subst h <;> decide +kernel

/-- Point `t`'s block of the predictions is block `t` of the first argument, -/
theorem predBlk_eq (c : Dev nD) (t : Fin cfg0.N) (j : S1024x1024.Idx) :
    predBlk m c t j = m ((c : Thread nD τ).loc main_arg0) (place (blockOf t) j) := by
  unfold predBlk iblk
  rw [View.read_apply]
  refine congrArg (m ((c : Thread nD τ).loc main_arg0)) (funext fun a => Fin.ext ?_)
  match a with
  | ⟨0, _⟩ => show win0_1.index t 0 * 1024 + 1 * (j 0).val = 1024 * t.val + (j 0).val; rw [(index1 t).1]; omega
  | ⟨1, _⟩ => show win0_1.index t 1 * 1024 + 1 * (j 1).val = (j 1).val; rw [(index1 t).2]; omega

/-- of the labels block `t` of the second, -/
theorem truthBlk_eq (c : Dev nD) (t : Fin cfg0.N) (j : S1024x1024.Idx) :
    truthBlk m c t j = m ((c : Thread nD τ).loc main_arg1) (place (blockOf t) j) := by
  unfold truthBlk iblk
  rw [View.read_apply]
  refine congrArg (m ((c : Thread nD τ).loc main_arg1)) (funext fun a => Fin.ext ?_)
  match a with
  | ⟨0, _⟩ => show win0_2.index t 0 * 1024 + 1 * (j 0).val = 1024 * t.val + (j 0).val; rw [(index2 t).1]; omega
  | ⟨1, _⟩ => show win0_2.index t 1 * 1024 + 1 * (j 1).val = (j 1).val; rw [(index2 t).2]; omega

/-- and of the mask block `t` of the fourth. -/
theorem maskBlk_eq (c : Dev nD) (t : Fin cfg0.N) (j : S1024x1024.Idx) :
    maskBlk m c t j = m ((c : Thread nD τ).loc main_arg3) (place (blockOf t) j) := by
  unfold maskBlk iblk
  rw [View.read_apply]
  refine congrArg (m ((c : Thread nD τ).loc main_arg3)) (funext fun a => Fin.ext ?_)
  match a with
  | ⟨0, _⟩ => show win0_3.index t 0 * 1024 + 1 * (j 0).val = 1024 * t.val + (j 0).val; rw [(index3 t).1]; omega
  | ⟨1, _⟩ => show win0_3.index t 1 * 1024 + 1 * (j 1).val = (j 1).val; rw [(index3 t).2]; omega

/-- Block `t`'s share of the loss -/
def blockLoss (c : Dev nD) (t : Fin 16) : EReal :=
  -∑ j : S1024x1024.Idx, logLik (m ((c : Thread nD τ).loc main_arg0) (place t j))
    (m ((c : Thread nD τ).loc main_arg1) (place t j)) (m ((c : Thread nD τ).loc main_arg3) (place t j))

/-- and of the count. -/
def blockCount (c : Dev nD) (t : Fin 16) : EReal :=
  ∑ j : S1024x1024.Idx, count (m ((c : Thread nD τ).loc main_arg3) (place t j))

/-- One point's update of the loss word -/
theorem loss_step (c : Dev nD) (t : Fin cfg0.N) (a : EReal) :
    k0_pay3 (F := Ideal) (predBlk m c t) (truthBlk m c t) (maskBlk m c t) a = a + blockLoss m c (blockOf t) := by
  rw [pay3_eq]
  unfold blockLoss
  exact congrArg (fun s => a + -s) (Finset.sum_congr rfl fun j _ => by rw [predBlk_eq, truthBlk_eq, maskBlk_eq])

/-- and of the count word. -/
theorem count_step (c : Dev nD) (t : Fin cfg0.N) (a : EReal) :
    k0_pay4 (F := Ideal) (maskBlk m c t) a = a + blockCount m c (blockOf t) := by
  rw [pay4_eq]
  unfold blockCount
  exact congrArg (fun s => a + s) (Finset.sum_congr rfl fun j _ => by rw [maskBlk_eq])

/-- After point `n` the loss word is the sum of the shares of blocks `0 … n`. -/
theorem loss_word (c : Dev nD) : ∀ (n : ℕ) (h : n < cfg0.N),
    words m c n h (word 0) = ∑ t : Fin (n + 1), blockLoss m c (blockOf ⟨t.val, lt_of_le_of_lt (Nat.lt_succ_iff.mp t.isLt) h⟩)
  | 0, h => by
    show k0_pay3 (F := Ideal) _ _ _ (Ideal.ofBits .f32 0x00000000#32) = _
    rw [loss_step, Ideal.ofBits_zero_f32, zero_add, Fin.sum_univ_one]
    rfl
  | n + 1, h => by
    show k0_pay3 (F := Ideal) _ _ _ (words m c n _ (word 0)) = _
    rw [loss_step, loss_word c n (Nat.lt_of_succ_lt h), Fin.sum_univ_castSucc (n := n + 1)]
    rfl

/-- After point `n` the count word is the sum of the counts of blocks `0 … n`. -/
theorem count_word (c : Dev nD) : ∀ (n : ℕ) (h : n < cfg0.N),
    words m c n h (word 1) = ∑ t : Fin (n + 1), blockCount m c (blockOf ⟨t.val, lt_of_le_of_lt (Nat.lt_succ_iff.mp t.isLt) h⟩)
  | 0, h => by
    show k0_pay4 (F := Ideal) _ (Ideal.ofBits .f32 0x00000000#32) = _
    rw [count_step, Ideal.ofBits_zero_f32, zero_add, Fin.sum_univ_one]
    rfl
  | n + 1, h => by
    show k0_pay4 (F := Ideal) _ (words m c n _ (word 1)) = _
    rw [count_step, count_word c n (Nat.lt_of_succ_lt h), Fin.sum_univ_castSucc (n := n + 1)]
    rfl

/-- The last point's store: the quotient of the two words, plus the weighted penalty. -/
theorem pay1_eq (a b v : EReal) : k0_pay1 (F := Ideal) a b v = Ideal.div a b + Ideal.ofBits .f32 0x3A83126F#32 * v := rfl

/-- The kernel's result is the mean loss of its arguments. -/
theorem total_eq (c : Dev nD) : total m c = meanLoss (m ((c : Thread nD τ).loc main_arg0)) (m ((c : Thread nD τ).loc main_arg1))
    (m ((c : Thread nD τ).loc main_arg3)) (m ((c : Thread nD τ).loc main_arg2) only) := by
  have hl : words m c 15 t0_15.isLt (word 0) = ∑ i : S16384x1024.Idx, -logLik (m ((c : Thread nD τ).loc main_arg0) i)
      (m ((c : Thread nD τ).loc main_arg1) i) (m ((c : Thread nD τ).loc main_arg3) i) := by
    refine (loss_word m c 15 t0_15.isLt).trans ?_
    rw [sum_blocks]
    exact Finset.sum_congr rfl fun t _ => neg_sum _ _ fun j => logLik_ne_bot _ _ _
  have hc : words m c 15 t0_15.isLt (word 1) = ∑ i : S16384x1024.Idx, count (m ((c : Thread nD τ).loc main_arg3) i) := by
    refine (count_word m c 15 t0_15.isLt).trans ?_
    rw [sum_blocks]
    exact Finset.sum_congr rfl fun t _ => rfl
  exact (pay1_eq _ _ _).trans (congrArg₂ (fun a b : EReal =>
    Ideal.div a b + Ideal.ofBits .f32 0x3A83126F#32 * m ((c : Thread nD τ).loc main_arg2) only) hl hc)

end Cert.KernelIdeal.Value

end
-- ==== Proof.Reference.lean ====
/-
  What the plain reference computes over the extended reals: on labels that are 0 or 1 wherever the mask selects, the
  same mean loss as the kernel.
-/
module

public import proofs.«01_k».proof.Proof.Total
public import proofs.«01_k».proof.Proof.Gen.ReferenceIdeal.Run
public import proofs.«01_k».proof.Pre_truth_binary
public import Idealize.ShloMosaic.Lib.ReduceAll

@[expose] public section

noncomputable section

namespace Cert.Pre_truth_binary.Facts

/-- The precondition's shape relations hold. -/
theorem proved : Cert.Pre_truth_binary.Facts where
  bcast_S_S16384x1024 := by decide
  reducesTo_S16384x1024_S_d0_1 := by decide
  h_S_ := by decide

end Cert.Pre_truth_binary.Facts

namespace Cert.Loss

open Idealize.ShloMosaic Idealize.ShloMosaic.ValueIdx

/-- A bit that is the disjunction of two is set only if one of them is. -/
theorem or_eq_one (a b : BitVec 1) (h : IntOp.ori a b = 1#1) : a = 1#1 ∨ b = 1#1 := by
  revert a b; decide

/-- The precondition read at one element: where the mask selects, the label is 0 or 1. -/
theorem label_of_pre [Cert.Pre_truth_binary.Facts] (p : FVec Ideal ⟨2, ![16384, 1024]⟩ .f32) (t : IVec ⟨2, ![16384, 1024]⟩ 32)
    (w : FVec Ideal ⟨1, ![1]⟩ .f32) (k : IVec ⟨2, ![16384, 1024]⟩ 32)
    (h : Cert.Pre_truth_binary.fn (F := Ideal) p t w k = fun _ => 1#1) (i : (⟨2, ![16384, 1024]⟩ : Shape).Idx)
    (hk : positive (k i) = 1#1) : t i = 0#32 ∨ t i = 1#32 := by
  have : Subsingleton Cert.Pre_truth_binary.S_.Idx := ⟨fun a b => funext fun d => d.elim0⟩
  have e := Host.reduce_andi_all _ _ _ _ ix0 (congrFun h ix0) i
  rcases or_eq_one _ _ e with e | e
  · rcases or_eq_one _ _ e with e | e
    · exfalso
      have e' : (k i).sle 0#32 = true := by
        have : BitVec.ofBool ((k i).sle 0#32) = 1#1 := e
        revert this; cases (k i).sle 0#32 <;> decide
      have k' : (0#32).slt (k i) = true := by
        have : BitVec.ofBool ((0#32).slt (k i)) = 1#1 := hk
        revert this; cases (0#32).slt (k i) <;> decide
      rw [BitVec.sle_eq_decide, decide_eq_true_eq] at e'
      rw [BitVec.slt_eq_decide, decide_eq_true_eq] at k'
      omega
    · left
      have : BitVec.ofBool (t i == 0#32) = 1#1 := e
      by_contra hne
      rw [beq_false_of_ne hne] at this
      exact absurd this (by decide)
  · right
    have : BitVec.ofBool (t i == 1#32) = 1#1 := e
    by_contra hne
    rw [beq_false_of_ne hne] at this
    exact absurd this (by decide)

end Cert.Loss

namespace Cert.ReferenceIdeal.Value

open Cert.ReferenceIdeal Cert.ReferenceIdeal.Gen Cert.Loss
open Idealize.ShloMosaic Idealize.ShloMosaic.ValueIdx

variable (p : FVec Ideal S16384x1024 .f32) (t k : IVec S16384x1024 32) (w : FVec Ideal S1 .f32)

/-- The mask as the reference sums it: one float per element of the flattened array. -/
abbrev maskFlat : FVec Ideal S16777216 .f32 :=
  uitofp .f32 (shapeCast S16777216 (cmpi .sgt k (broadcastInDim S16384x1024 ![] bcast_S_S16384x1024 (constantI S_ 32 0#32)))
    shapeCasts_S16384x1024_S16777216)

/-- The masked cross-entropies as the reference sums them. -/
abbrev lossFlat : FVec Ideal S16777216 .f32 :=
  mulf (Host.negf (addf (mulf (sitofp .f32 (shapeCast S16777216 t shapeCasts_S16384x1024_S16777216))
      (maximumf (broadcastInDim S16777216 ![] bcast_S_S16777216 (id (constant (F := Ideal) S_ .f32 0xC2C80000#32)))
        (Host.log (shapeCast S16777216 p shapeCasts_S16384x1024_S16777216))))
    (mulf (subf (broadcastInDim S16777216 ![] bcast_S_S16777216 (constant (F := Ideal) S_ .f32 0x3F800000#32))
        (sitofp .f32 (shapeCast S16777216 t shapeCasts_S16384x1024_S16777216)))
      (maximumf (broadcastInDim S16777216 ![] bcast_S_S16777216 (id (constant (F := Ideal) S_ .f32 0xC2C80000#32)))
        (Host.log (subf (broadcastInDim S16777216 ![] bcast_S_S16777216 (constant (F := Ideal) S_ .f32 0x3F800000#32))
          (shapeCast S16777216 p shapeCasts_S16384x1024_S16777216))))))) (maskFlat k)

/-- The element of the array that stands at a position of the flattened one. -/
abbrev unflat (i : S16777216.Idx) : S16384x1024.Idx := Shape.reshapeEquiv shapeCasts_S16384x1024_S16777216 i

theorem maskFlat_apply (i : S16777216.Idx) : maskFlat k i = count (k (unflat i)) := rfl

theorem lossFlat_apply (i : S16777216.Idx) : lossFlat p t k i = crossEntropy (p (unflat i)) (t (unflat i)) (k (unflat i)) := by
  show -(((((t (unflat i)).toInt : ℤ) : ℝ) : EReal) * max bound (Ideal.log (p (unflat i)))
      + (Ideal.ofBits .f32 0x3F800000#32 - ((((t (unflat i)).toInt : ℤ) : ℝ) : EReal))
        * max bound (Ideal.log (Ideal.ofBits .f32 0x3F800000#32 - p (unflat i)))) * count (k (unflat i)) = _
  rw [Ideal.ofBits_one_f32]
  rfl

/-- The host's sum of a flattened array is the sum over the array. -/
theorem sum_flat (x : FVec Ideal S16777216 .f32) (f : S16384x1024.Idx → EReal) (h : ∀ i, x i = f (unflat i)) (j : S_.Idx) :
    Host.reduceAdd x (constant (F := Ideal) S_ .f32 0x00000000#32) reducesTo_S16777216_S_d0 h_S_ j = ∑ i : S16384x1024.Idx, f i := by
  rw [hostReduceAdd_apply, Ideal.hostReduceAdd_total _ (fun b => b.elim0)]
  show Ideal.ofBits .f32 0x00000000#32 + _ = _
  rw [Ideal.ofBits_zero_f32, zero_add, Finset.sum_congr rfl fun i _ => h i]
  exact Equiv.sum_comp (Shape.reshapeEquiv shapeCasts_S16384x1024_S16777216) f

/-- The reference's result, on labels that are 0 or 1 wherever the mask selects, is the mean loss. -/
theorem value_eq (h : ∀ i, positive (k i) = 1#1 → t i = 0#32 ∨ t i = 1#32) (j : S_.Idx) :
    addf (Host.divf
        (Host.reduceAdd (lossFlat p t k) (constant (F := Ideal) S_ .f32 0x00000000#32) reducesTo_S16777216_S_d0 h_S_)
        (Host.reduceAdd (maskFlat k) (constant (F := Ideal) S_ .f32 0x00000000#32) reducesTo_S16777216_S_d0 h_S_))
      (mulf (constant (F := Ideal) S_ .f32 0x3A83126F#32) (shapeCast S_ w shapeCasts_S1_S_)) j
      = meanLoss p t k (w Cert.KernelIdeal.Value.only) := by
  have hl := (sum_flat (lossFlat p t k) (fun i => crossEntropy (p i) (t i) (k i)) (lossFlat_apply p t k) j).trans
    (Finset.sum_congr rfl fun i _ => crossEntropy_eq (p i) (t i) (k i) (h i))
  have hc := sum_flat (maskFlat k) (fun i => count (k i)) (maskFlat_apply k) j
  have hw : Shape.reshapeEquiv shapeCasts_S1_S_ j = Cert.KernelIdeal.Value.only := funext fun d => Fin.ext (by
    have h1 : ∀ x y : Fin 1, x.val = y.val := fun x y => by omega
    match d with
    | ⟨0, _⟩ => exact h1 _ _)
  rw [addf_apply, hostDivf_apply, mulf_apply, hl, hc]
  unfold meanLoss
  exact congrArg (fun q => Ideal.div _ _ + Ideal.ofBits .f32 0x3A83126F#32 * w q) hw

end Cert.ReferenceIdeal.Value

end
-- ==== Proof.lean ====
/-
  The claims about the masked binary cross-entropy kernel, assembled.

  Proof/Body.lean reads one grid point's stores; Proof/Run.lean the result array after the last point; Proof/Loss.lean is
  the mathematics of one element; Proof/Blocks.lean and Proof/Total.lean make the kernel's result one mean over the whole
  array; Proof/Reference.lean makes the reference's result the same mean.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Reference
public import Idealize.ShloMosaic.Lib.Quiescent

@[expose] public section

noncomputable section

namespace Cert.Proof

open Idealize.ShloMosaic Idealize.SL.Sem Cert.Loss

/-- The reference ends with its arguments unchanged and, having no semaphore, with every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference end with the same result, the mean loss of their arguments. -/
theorem same_result : Cert.algebraic_KernelIdeal_ReferenceIdeal_pre_truth_binary (hKernelIdeal := Cert.KernelIdeal.Gen.facts)
    (hReferenceIdeal := Cert.ReferenceIdeal.Gen.facts) (hPre_truth_binary := Cert.Pre_truth_binary.Facts.proved) := by
  intro m ρ m' ρ' hpre hargs
  refine ⟨fun c _ => Cert.KernelIdeal.Value.total m c, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3⟩ := hargs c
  rw [e0, e1, e2, e3]
  funext j
  refine (Cert.ReferenceIdeal.Value.value_eq _ _ _ _ ?_ j).trans (Cert.KernelIdeal.Value.total_eq m c).symm
  exact fun i => @label_of_pre Cert.Pre_truth_binary.Facts.proved _ _ _ _ (hpre c) i

/-- Everything claimed. -/
theorem claim : Cert.Claim :=
  ⟨Cert.Kernel.Gen.facts, Cert.KernelIdeal.Gen.facts, Cert.ReferenceIdeal.Gen.facts, Cert.Pre_truth_binary.Facts.proved,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_result⟩

end Cert.Proof

end
